-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x2x2x100000 : Shape := ⟨4, ![2, 2, 2, 100000]⟩
abbrev S100000x3 : Shape := ⟨2, ![100000, 3]⟩
abbrev S3x100000 : Shape := ⟨2, ![3, 100000]⟩
abbrev S3x3x3x100000 : Shape := ⟨4, ![3, 3, 3, 100000]⟩
abbrev S2x2x2x25600 : Shape := ⟨4, ![2, 2, 2, 25600]⟩
abbrev S3x25600 : Shape := ⟨2, ![3, 25600]⟩
abbrev S3x3x3x25600 : Shape := ⟨4, ![3, 3, 3, 25600]⟩
abbrev S8x200x128 : Shape := ⟨3, ![8, 200, 128]⟩
abbrev S3x200x128 : Shape := ⟨3, ![3, 200, 128]⟩
abbrev S4x200x128 : Shape := ⟨3, ![4, 200, 128]⟩
abbrev S3x1x200x128 : Shape := ⟨4, ![3, 1, 200, 128]⟩
abbrev S1x4x200x128 : Shape := ⟨4, ![1, 4, 200, 128]⟩
abbrev S3x4x200x128 : Shape := ⟨4, ![3, 4, 200, 128]⟩
abbrev S3x2x2x200x128 : Shape := ⟨5, ![3, 2, 2, 200, 128]⟩
abbrev S1x3x1x200x128 : Shape := ⟨5, ![1, 3, 1, 200, 128]⟩
abbrev S3x1x2x200x128 : Shape := ⟨5, ![3, 1, 2, 200, 128]⟩
abbrev S3x2x200x128 : Shape := ⟨4, ![3, 2, 200, 128]⟩
abbrev S3x3x2x200x128 : Shape := ⟨5, ![3, 3, 2, 200, 128]⟩
abbrev S1x1x3x200x128 : Shape := ⟨5, ![1, 1, 3, 200, 128]⟩
abbrev S3x3x1x200x128 : Shape := ⟨5, ![3, 3, 1, 200, 128]⟩
abbrev S3x3x200x128 : Shape := ⟨4, ![3, 3, 200, 128]⟩
abbrev S3x3x3x200x128 : Shape := ⟨5, ![3, 3, 3, 200, 128]⟩

abbrev nBuf : Space → Nat
  | .hbm => 6
  | .vmem => 8
  | .smem => 0
  | _ => 0

abbrev bufTy : (tb : Table) → Fin (tcTables nBuf tb) → BufTy
  | .hbm, ⟨0, _⟩ => ⟨S2x2x2x100000, .f32⟩
  | .hbm, ⟨1, _⟩ => ⟨S100000x3, .f32⟩
  | .hbm, ⟨2, _⟩ => ⟨S100000x3, .f32⟩
  | .hbm, ⟨3, _⟩ => ⟨S3x100000, .f32⟩
  | .hbm, ⟨4, _⟩ => ⟨S3x100000, .f32⟩
  | .hbm, ⟨5, _⟩ => ⟨S3x3x3x100000, .f32⟩
  | .local _ .vmem, ⟨0, _⟩ => ⟨S2x2x2x25600, .f32⟩
  | .local _ .vmem, ⟨1, _⟩ => ⟨S2x2x2x25600, .f32⟩
  | .local _ .vmem, ⟨2, _⟩ => ⟨S3x25600, .f32⟩
  | .local _ .vmem, ⟨3, _⟩ => ⟨S3x25600, .f32⟩
  | .local _ .vmem, ⟨4, _⟩ => ⟨S3x25600, .f32⟩
  | .local _ .vmem, ⟨5, _⟩ => ⟨S3x25600, .f32⟩
  | .local _ .vmem, ⟨6, _⟩ => ⟨S3x3x3x25600, .f32⟩
  | .local _ .vmem, ⟨7, _⟩ => ⟨S3x3x3x25600, .f32⟩
  | _, _ => ⟨S2x2x2x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

abbrev stage0_0 : Fin 2 → Memref sig .tc .vmem S2x2x2x25600 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x25600 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x25600 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x3x3x25600 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S2x2x2x100000 : Shape := ⟨4, ![2, 2, 2, 100000]⟩
abbrev S100000x3 : Shape := ⟨2, ![100000, 3]⟩
abbrev S1x100000x3 : Shape := ⟨3, ![1, 100000, 3]⟩
abbrev S2x100000x3 : Shape := ⟨3, ![2, 100000, 3]⟩
abbrev S100000x2x2x3 : Shape := ⟨4, ![100000, 2, 2, 3]⟩
abbrev S2x2x3x100000 : Shape := ⟨4, ![2, 2, 3, 100000]⟩
abbrev S100000x2x3x3 : Shape := ⟨4, ![100000, 2, 3, 3]⟩
abbrev S2x3x3x100000 : Shape := ⟨4, ![2, 3, 3, 100000]⟩
abbrev S100000x3x3x3 : Shape := ⟨4, ![100000, 3, 3, 3]⟩
abbrev S3x3x3x100000 : Shape := ⟨4, ![3, 3, 3, 100000]⟩

abbrev nBuf : Space → Nat
  | .hbm => 12
  | .vmem => 0
  | .smem => 0
  | _ => 0

abbrev bufTy : (tb : Table) → Fin (tcTables nBuf tb) → BufTy
  | .hbm, ⟨0, _⟩ => ⟨S2x2x2x100000, .f32⟩
  | .hbm, ⟨1, _⟩ => ⟨S100000x3, .f32⟩
  | .hbm, ⟨2, _⟩ => ⟨S100000x3, .f32⟩
  | .hbm, ⟨3, _⟩ => ⟨S1x100000x3, .f32⟩
  | .hbm, ⟨4, _⟩ => ⟨S1x100000x3, .f32⟩
  | .hbm, ⟨5, _⟩ => ⟨S2x100000x3, .f32⟩
  | .hbm, ⟨6, _⟩ => ⟨S100000x2x2x3, .f32⟩
  | .hbm, ⟨7, _⟩ => ⟨S2x2x3x100000, .f32⟩
  | .hbm, ⟨8, _⟩ => ⟨S100000x2x3x3, .f32⟩
  | .hbm, ⟨9, _⟩ => ⟨S2x3x3x100000, .f32⟩
  | .hbm, ⟨10, _⟩ => ⟨S100000x3x3x3, .f32⟩
  | .hbm, ⟨11, _⟩ => ⟨S3x3x3x100000, .f32⟩
  | _, _ => ⟨S2x2x2x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Proof.BlockValue.lean ====
module

public import proofs.«01_k».proof.Proof.Gen.KernelIdeal.Skeleton
public import Idealize.ShloMosaic.Lib.Pointwise

@[expose] public section

noncomputable section

namespace Cert.Proof01

open Cert.KernelIdeal Cert.KernelIdeal.Gen Idealize.ShloMosaic

variable {F : FTy → Type} [FloatOps F]

/-! # What one grid point computes

Every vertex has a 2×2×2 cube `x` of numbers and two triples `a`, `b`.  The kernel contracts the three axes of the
cube one after another, each with the pair of triples, and gets a 3×3×3 cube.  This module says that in scalars and
shows that the body's stored block is that, vertex by vertex. -/

/-- The pair `(p, q)` weighted by the pair `(a, b)`: `a * p + b * q`, in the float operations at hand. -/
def weigh (a b p q : F .f32) : F .f32 := FloatOps.addf (FloatOps.mulf a p) (FloatOps.mulf b q)

/-- A 2×2×2 cube with its three axes contracted, the first with entry `i` of the two triples, the second with entry
    `j`, the third with entry `k`. -/
def contracted (x : Fin 2 → Fin 2 → Fin 2 → F .f32) (a b : Fin 3 → F .f32) (i j k : Fin 3) : F .f32 :=
  let first (s t : Fin 2) : F .f32 := weigh (a i) (b i) (x 0 s t) (x 1 s t)
  let second (t : Fin 2) : F .f32 := weigh (a j) (b j) (first 0 t) (first 1 t)
  weigh (a k) (b k) (second 0) (second 1)

/-- The block the body stores, from the three blocks it loads: the cubes, the first triples, the second triples. -/
def stored (X : Vec F S2x2x2x25600 .f32) (A B : Vec F S3x25600 .f32) : Vec F S3x3x3x25600 .f32 :=
  k0_pay1 (k0_pay5 X A B) (k0_pay6 X A B)

/-- Lane `v` of the stored block is the contracted cube of lane `v` of the loaded blocks, and depends on no other
    lane. -/
theorem stored_apply (X : Vec F S2x2x2x25600 .f32) (A B : Vec F S3x25600 .f32) (i j k : Fin 3) (v : Fin 25600) :
    stored X A B (ix4 i j k v)
      = contracted (fun r s t => X (ix4 r s t v)) (fun r => A (ix2 r v)) (fun r => B (ix2 r v)) i j k := by
  pointwise [stored, k0_pay1, k0_pay5, k0_pay6, k0_pay4, k0_pay2, k0_pay3]
  rfl

/-- Blocks that agree at lane `v` are stored alike at lane `v`. -/
theorem stored_congr {X X' : Vec F S2x2x2x25600 .f32} {A A' B B' : Vec F S3x25600 .f32} (v : Fin 25600)
    (hX : ∀ r s t, X (ix4 r s t v) = X' (ix4 r s t v)) (hA : ∀ r, A (ix2 r v) = A' (ix2 r v))
    (hB : ∀ r, B (ix2 r v) = B' (ix2 r v)) (i j k : Fin 3) :
    stored X A B (ix4 i j k v) = stored X' A' B' (ix4 i j k v) := by
  rw [stored_apply, stored_apply]
  simp only [hX, hA, hB]

end Cert.Proof01
-- ==== Proof.BodyRun.lean ====
module

public import proofs.«01_k».proof.Proof.BlockValue
public import proofs.«01_k».proof.Proof.Gen.KernelIdeal.Frame
public import Idealize.ShloMosaic.Lib.Pipeline.FrameBody
public import Idealize.ShloMosaic.Lib.Pipeline.ValueKit
public import Idealize.ShloMosaic.Lib.Tactic

@[expose] public section

set_option maxRecDepth 16384

noncomputable section

namespace Cert.Proof01

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! # One execution of the body -/

/-- Two offsets, both zero. -/
theorem offsets_two : (![0, 0] : Fin 2 → ℕ) = fun _ => 0 := by decide

/-- Four offsets, all zero. -/
theorem offsets_four : (![0, 0, 0, 0] : Fin 4 → ℕ) = fun _ => 0 := by decide

/-- A load of a whole buffer reads what the buffer holds. -/
theorem load_whole {κ : Kind} {sp : Space} {s : Shape} {e : EltTy} (v : View sig κ sp s e) (f : v.ty.Contents (Elt F))
    {off : Fin s.rank → ℕ} (h : off = fun _ => 0) (inb : ∀ a, off a + s.size a ≤ s.size a) :
    v.readAt (Elt F) (Rect.unit (s := s) off s.size inb).toLoadRect f = v.read (Elt F) f :=
  View.ld_unit_zero h inb _

/-- After a store of a whole buffer the buffer holds what was stored. -/
theorem read_store_whole {κ : Kind} {sp : Space} {s : Shape} {e : EltTy} (v : View sig κ sp s e)
    (f : v.ty.Contents (Elt F)) {off : Fin s.rank → ℕ} (h : off = fun _ => 0)
    (inb : ∀ a, off a + s.size a ≤ s.size a) (w : s.Idx → Elt F e) :
    v.read (Elt F) (v.writes (Elt F) f [⟨Rect.unit (s := s) off s.size inb, w⟩]) = w :=
  (View.read_writes_eq_canon v f _ fun y => ⟨_, List.mem_singleton_self _, View.mem_set_unit_zero h inb y⟩).trans
    (View.canon_unit_zero h inb w)

set_option maxHeartbeats 1000000 in
/-- Called on four whole buffers, the first three holding `X`, `A` and `B`, the body ends with those unchanged and
    with `stored X A B` in the fourth, whatever that held. -/
theorem body_wp (c : Dev nD) (E : Set ℕ) (i : grid0.Coords)
    (arg1 : Memref sig .tc .vmem S2x2x2x25600 .f32) (harg1 : arg1.IsWhole)
    (arg2 : Memref sig .tc .vmem S3x25600 .f32) (harg2 : arg2.IsWhole)
    (arg3 : Memref sig .tc .vmem S3x25600 .f32) (harg3 : arg3.IsWhole)
    (arg4 : Memref sig .tc .vmem S3x3x3x25600 .f32) (harg4 : arg4.IsWhole)
    (X : Vec F S2x2x2x25600 .f32) (A B : Vec F S3x25600 .f32) (D : Vec F S3x3x3x25600 .f32)
    (K : PUnit → sProp 𝕄) :
    iprop(owns (c : Thread nD τ) arg1 fullShare X ∗ owns (c : Thread nD τ) arg2 fullShare A
        ∗ owns (c : Thread nD τ) arg3 fullShare B ∗ owns (c : Thread nD τ) arg4 fullShare D
        ∗ (iprop(owns (c : Thread nD τ) arg1 fullShare X ∗ owns (c : Thread nD τ) arg2 fullShare A
            ∗ owns (c : Thread nD τ) arg3 fullShare B ∗ owns (c : Thread nD τ) arg4 fullShare (stored X A B))
          -∗ K ⟨⟩))
      ⊢ wp frame (wpE (defs₀ (F := F)) Variants.none c none) E
          (cc0__contract_kernel i arg1 harg1 arg2 harg2 arg3 harg3 arg4 harg4) K := by
  rw [cc0__contract_kernel_eq_skeleton]
  unfold cc0__contract_kernel_skel
  rw [k0_part1_eq_skeleton]
  unfold k0_part1_skel
  unfold owns
  iintro ⟨⟨%f1, %h1, H1⟩, ⟨%f2, %h2, H2⟩, ⟨%f3, %h3, H3⟩, ⟨%f4, %h4, H4⟩, Hk⟩
  sl_exec
  sl_step
  iapply Hk
  isplitl [H1]
  · iexists f1; isplitr; · ipureintro; exact h1
    iexact H1
  isplitl [H2]
  · iexists f2; isplitr; · ipureintro; exact h2
    iexact H2
  isplitl [H3]
  · iexists f3; isplitr; · ipureintro; exact h3
    iexact H3
  iexists _; isplitr
  swap; · iexact H4
  ipureintro
  refine (read_store_whole arg4.view f4 offsets_four _ _).trans ?_
  unfold stored
  rw [load_whole arg1.view f1 offsets_four, load_whole arg2.view f2 offsets_two, load_whole arg3.view f3 offsets_two,
    h1, h2, h3]

end Cert.Proof01
-- ==== Proof.Run.lean ====
module

public import proofs.«01_k».proof.Proof.BodyRun

@[expose] public section

set_option maxRecDepth 16384

noncomputable section

namespace Cert.Proof01

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

/-! # The run of the whole program

The blocks are 25600 lanes wide and the arrays 100000, so the last block overhangs: its fetch fills the lanes past the
end with words nobody names.  The body computes on them too, but no lane of what it stores depends on another, and the
write-back is cut where the fetch is, so nothing of them reaches the result. -/

/-- A number to write in the lanes past the end of the arrays, where nothing is claimed. -/
def pad : F .f32 := FloatOps.ofBits .f32 0#32

/-- The cubes of point `t`'s block, with `pad` past the end of the array. -/
def cubes (c : Dev nD) (t : Fin cfg0.N) : Vec F S2x2x2x25600 .f32 :=
  win0_0.fill (grid0.coords t) (fun _ => pad) (iblk m c 0 t)

/-- The first triples of point `t`'s block, with `pad` past the end. -/
def firsts (c : Dev nD) (t : Fin cfg0.N) : Vec F S3x25600 .f32 :=
  win0_1.fill (grid0.coords t) (fun _ => pad) (iblk m c 1 t)

/-- The second triples of point `t`'s block, with `pad` past the end. -/
def seconds (c : Dev nD) (t : Fin cfg0.N) : Vec F S3x25600 .f32 :=
  win0_2.fill (grid0.coords t) (fun _ => pad) (iblk m c 2 t)

/-- What the four staging buffers hold after the body at point `t`: the three input blocks, and what is stored from
    them. -/
def dats (_ : Fin 1) (c : Dev nD) : Dat τ (Elt F) Unit ℕ (UR sig nD τ) ℕ cfg0 c where
  A w := V m c (Pipeline.arrRef spec0 w)
  after w t := match w with
    | ⟨0, _⟩ => cubes m c t
    | ⟨1, _⟩ => firsts m c t
    | ⟨2, _⟩ => seconds m c t
    | ⟨3, _⟩ => stored (cubes m c t) (firsts m c t) (seconds m c t)
  Φ _ := Pipeline.ΦA spec0 c
  q _ := fullShare
  owed _ := 0

/-- The four windows are cut alike along the lanes. -/
theorem xsize_lanes : ∀ t : Fin cfg0.N,
    win0_0.xsize (grid0.coords t) 3 = win0_3.xsize (grid0.coords t) 3
      ∧ win0_1.xsize (grid0.coords t) 1 = win0_3.xsize (grid0.coords t) 3
      ∧ win0_2.xsize (grid0.coords t) 1 = win0_3.xsize (grid0.coords t) 3 := by
  decide +kernel

/-- The input windows are cut along no other axis. -/
theorem xsize_others : ∀ t : Fin cfg0.N,
    (∀ a : Fin 3, win0_0.xsize (grid0.coords t) a.castSucc = 2)
      ∧ win0_1.xsize (grid0.coords t) 0 = 3 ∧ win0_2.xsize (grid0.coords t) 0 = 3 := by
  decide +kernel

/-- Inside the array, a filled block does not depend on what fills it. -/
theorem fill_inside (w : Window sig grid0) (i : grid0.Coords) {α : Type} (d d' : w.block.Idx → α)
    (g : (w.xblock i).Idx → α) (j : w.block.Idx) (h : ∀ a, (j a).val < w.xsize i a) :
    w.fill i d g j = w.fill i d' g j := by
  have h : w.moved i j = true := (w.moved_iff i j).mpr h
  unfold Window.fill
  rw [dif_pos h, dif_pos h]

/-- A lane that the write-back moves is moved by the fetch of the cubes; -/
theorem moved_cubes (t : Fin cfg0.N) (v : Fin 25600) (hv : v.val < win0_3.xsize (grid0.coords t) 3) (r s q : Fin 2) :
    ∀ a, ((ix4 r s q v : S2x2x2x25600.Idx) a).val < win0_0.xsize (grid0.coords t) a
  | ⟨0, _⟩ => ((xsize_others t).1 0).symm ▸ r.isLt
  | ⟨1, _⟩ => ((xsize_others t).1 1).symm ▸ s.isLt
  | ⟨2, _⟩ => ((xsize_others t).1 2).symm ▸ q.isLt
  | ⟨3, _⟩ => (xsize_lanes t).1.symm ▸ hv

/-- of the first triples; -/
theorem moved_firsts (t : Fin cfg0.N) (v : Fin 25600) (hv : v.val < win0_3.xsize (grid0.coords t) 3) (r : Fin 3) :
    ∀ a, ((ix2 r v : S3x25600.Idx) a).val < win0_1.xsize (grid0.coords t) a
  | ⟨0, _⟩ => (xsize_others t).2.1.symm ▸ r.isLt
  | ⟨1, _⟩ => (xsize_lanes t).2.1.symm ▸ hv

/-- and of the second triples. -/
theorem moved_seconds (t : Fin cfg0.N) (v : Fin 25600) (hv : v.val < win0_3.xsize (grid0.coords t) 3) (r : Fin 3) :
    ∀ a, ((ix2 r v : S3x25600.Idx) a).val < win0_2.xsize (grid0.coords t) a
  | ⟨0, _⟩ => (xsize_others t).2.2.symm ▸ r.isLt
  | ⟨1, _⟩ => (xsize_lanes t).2.2.symm ▸ hv

/-- The part of the stored block that is written back does not depend on what the fetches leave past the end of
    their arrays. -/
theorem cut_stored (c : Dev nD) (t : Fin cfg0.N) (d0 : Vec F S2x2x2x25600 .f32) (d1 d2 : Vec F S3x25600 .f32) :
    win0_3.cut (grid0.coords t)
        (stored (win0_0.fill (grid0.coords t) d0 (iblk m c 0 t)) (win0_1.fill (grid0.coords t) d1 (iblk m c 1 t))
          (win0_2.fill (grid0.coords t) d2 (iblk m c 2 t)))
      = win0_3.cut (grid0.coords t) (stored (cubes m c t) (firsts m c t) (seconds m c t)) := by
  funext y
  have hv : ((win0_3.xinj (grid0.coords t) y : S3x3x3x25600.Idx) 3).val < win0_3.xsize (grid0.coords t) 3 := (y 3).isLt
  change stored _ _ _ (win0_3.xinj (grid0.coords t) y) = stored _ _ _ (win0_3.xinj (grid0.coords t) y)
  generalize (win0_3.xinj (grid0.coords t) y : S3x3x3x25600.Idx) = j at hv
  rw [eq_ix4 j]
  exact stored_congr (j 3) (fun r s q => fill_inside win0_0 _ _ _ _ _ (moved_cubes t _ hv r s q))
    (fun r => fill_inside win0_1 _ _ _ _ _ (moved_firsts t _ hv r))
    (fun r => fill_inside win0_2 _ _ _ _ _ (moved_seconds t _ hv r)) _ _ _

/-! ## The staging buffers around the body -/

/-- Before the body, the first buffer holds the point's block of cubes, with anything past the end of the array; -/
theorem before_cubes (c : Dev nD) (t : Fin cfg0.N) (d) :
    (dats m 0 c).before (0 : Fin 4) t d = win0_0.fill (grid0.coords t) d (iblk m c 0 t) := by
  unfold Dat.before; rw [if_pos (fetch0_0 t)]; rfl

/-- the second the block of first triples, likewise; -/
theorem before_firsts (c : Dev nD) (t : Fin cfg0.N) (d) :
    (dats m 0 c).before (1 : Fin 4) t d = win0_1.fill (grid0.coords t) d (iblk m c 1 t) := by
  unfold Dat.before; rw [if_pos (fetch0_1 t)]; rfl

/-- the third the block of second triples, likewise. -/
theorem before_seconds (c : Dev nD) (t : Fin cfg0.N) (d) :
    (dats m 0 c).before (2 : Fin 4) t d = win0_2.fill (grid0.coords t) d (iblk m c 2 t) := by
  unfold Dat.before; rw [if_pos (fetch0_2 t)]; rfl

/-- The body at every point takes the buffers from what the fetches leave to what `dats` names, on the lanes inside
    the arrays. -/
theorem body_obligation (c : Dev nD) :
    BodyObligationLoose (dats m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩⟩
  rw [before_cubes m c t d0, before_firsts m c t d1, before_seconds m c t d2]
  iapply (body_wp (F := F) c Set.univ (grid0.coords t)
    (stage0_0 (cfg0.slots t 0)) (hstage0_0 _) (stage0_1 (cfg0.slots t 1)) (hstage0_1 _)
    (stage0_2 (cfg0.slots t 2)) (hstage0_2 _) (stage0_3 (cfg0.slots t 3)) (hstage0_3 _)
    (win0_0.fill (grid0.coords t) d0 (iblk m c 0 t)) (win0_1.fill (grid0.coords t) d1 (iblk m c 1 t))
    (win0_2.fill (grid0.coords t) d2 (iblk m c 2 t)) _ _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]
  · iexists d0
    change _ ⊢ owns (c : Thread nD τ) (stage0_0 (cfg0.slots t 0)) fullShare
      (win0_0.fill (grid0.coords t) d0 (win0_0.cut (grid0.coords t) (cubes m c t)))
    unfold cubes
    rw [Window.cut_fill]; try iexact H0
  isplitl [H1]
  · iexists d1
    change _ ⊢ owns (c : Thread nD τ) (stage0_1 (cfg0.slots t 1)) fullShare
      (win0_1.fill (grid0.coords t) d1 (win0_1.cut (grid0.coords t) (firsts m c t)))
    unfold firsts
    rw [Window.cut_fill]; try iexact H1
  isplitl [H2]
  · iexists d2
    change _ ⊢ owns (c : Thread nD τ) (stage0_2 (cfg0.slots t 2)) fullShare
      (win0_2.fill (grid0.coords t) d2 (win0_2.cut (grid0.coords t) (seconds m c t)))
    unfold seconds
    rw [Window.cut_fill]; try iexact H2
  · iexists stored (win0_0.fill (grid0.coords t) d0 (iblk m c 0 t)) (win0_1.fill (grid0.coords t) d1 (iblk m c 1 t))
      (win0_2.fill (grid0.coords t) d2 (iblk m c 2 t))
    change _ ⊢ owns (c : Thread nD τ) (stage0_3 (cfg0.slots t 3)) fullShare
      (win0_3.fill (grid0.coords t) _ (win0_3.cut (grid0.coords t) (stored (cubes m c t) (firsts m c t) (seconds m c t))))
    rw [← cut_stored m c t d0 d1 d2, Window.fill_cut]; try iexact H3

/-! ## The run -/

set_option backward.isDefEq.respectTransparency.types false in
/-- The program terminates under every weakly fair schedule; every array of the call then holds what its
    write-backs make of it, every other array what it held when the call began, and every counter is zero. -/
theorem run_main : θ_run defs (onTc (τ := τ) (main (F := F))) (s₀ m ρ)
    (fun r => Pipeline.FramePost cfgs (dats m) 0 (V m) r ∧ r.2.sem = fun _ => 0) :=
  Pipeline.θ_run_frame cfgs (dats m) 0 launch0 defs₀ Variants.none m ρ main
    (hbody := body_obligation m)
    (hshare := fun c => (dats m 0 c).share_full fun _ => rfl) (howed := fun _ _ => rfl)
    (V := V m) (hmain := hmain m Variants.none) (hA := fun _ _ => rfl) (hΦ := fun _ _ => rfl)
    (Q' := fun r => Pipeline.FramePost cfgs (dats m) 0 (V m) r ∧ r.2.sem = fun _ => 0)
    (hQ' := fun _ h => h)

end Cert.Proof01
-- ==== Proof.SameProgram.lean ====
module

public import proofs.«01_k».proof.Proof.Gen.KernelIdeal
public import proofs.«01_k».proof.Proof.Gen.Kernel

@[expose] public section

set_option maxRecDepth 65536

noncomputable section

namespace Cert.Proof01

open Idealize.ShloMosaic

variable {F : FTy → Type} [FloatOps F]

/-! # The kernel and its idealization are one program

No operation was rewritten, so the two printed programs differ in nothing but their names. -/

/-- The two tables of bodies are equal: their one row is the same. -/
theorem bodies_eq : Cert.Kernel.defs₀ (F := F) = Cert.KernelIdeal.defs₀ (F := F) :=
  congrArg Defs.onTc (funext fun l => funext fun x => by
    match l, x with
    | 0, (_, _) => rfl
    | ⟨_ + 1, h⟩, _ => exact absurd h (Nat.not_lt.2 (Nat.le_add_left _ _)))

/-- So are the tables with the pipeline's own rows. -/
theorem defs_eq : Cert.Kernel.defs (F := F) = Cert.KernelIdeal.defs (F := F) :=
  congrArg (Pipeline.defs Cert.KernelIdeal.pcfgs) bodies_eq

end Cert.Proof01
-- ==== Proof.Frame.lean ====
module

public import proofs.«01_k».proof.Defs
public import proofs.«01_k».proof.Proof.Run
public import proofs.«01_k».proof.Proof.SameProgram
public import Idealize.ShloMosaic.Lib.Pipeline.Quiescent
public import Idealize.ShloMosaic.Lib.Claim

@[expose] public section

noncomputable section

namespace Cert.Proof01

open Cert.KernelIdeal Cert.KernelIdeal.Gen
open Idealize.ShloMosaic Idealize.ShloMosaic.TcCoe
open Idealize.SL.Sem

variable {F : FTy → Type} [FloatOps F]

variable (m : (ℓ : Loc nD τ sig) → Buf (Elt F) ℓ) (ρ : Dev nD → PrngReg)

/-! # The frame of the kernel -/

/-- For any float operations: the program terminates with its arguments unchanged and every counter zero. -/
theorem frame_run : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_with_sems (frame_of m ρ (dats m) fun _ _ => rfl) (run_main m ρ)

/-- The idealization's frame claim. -/
theorem frame_ideal : Cert.quiescent_KernelIdeal := fun m g _ => frame_run m g

/-- The kernel's frame claim: the same run, at bit patterns. -/
theorem frame_kernel : Cert.quiescent_Kernel := by
  intro m g _
  rw [defs_eq]
  exact frame_run (F := Bits) m g

end Cert.Proof01
-- ==== Proof.Result.lean ====
module

public import proofs.«01_k».proof.Proof.BlockValue

@[expose] public section

noncomputable section

namespace Cert.Proof01

open Cert.KernelIdeal Cert.KernelIdeal.Gen Idealize.ShloMosaic

variable {F : FTy → Type} [FloatOps F]

/-- The whole result: at vertex `v`, the cube `x[:, :, :, v]` contracted with the triples `e0[v, :]` and `e1[v, :]`. -/
def result (x : Vec F S2x2x2x100000 .f32) (e0 e1 : Vec F S100000x3 .f32) : Vec F S3x3x3x100000 .f32 := fun y =>
  contracted (fun r s t => x (ix4 r s t (y 3))) (fun r => e0 (ix2 (y 3) r)) (fun r => e1 (ix2 (y 3) r)) (y 0) (y 1) (y 2)

end Cert.Proof01
-- ==== Proof.ArrayValue.lean ====
module

public import proofs.«01_k».proof.Proof.Result
public import proofs.«01_k».proof.Proof.Run
public import Idealize.ShloMosaic.Lib.Pipeline.ValueKit
public import Idealize.ShloMosaic.Lib.Claim

@[expose] public section

set_option maxRecDepth 16384

noncomputable section

namespace Cert.Proof01

open Cert.KernelIdeal Cert.KernelIdeal.Gen
open Idealize.ShloMosaic Idealize.ShloMosaic.TcCoe
open Idealize.SL.Sem

variable {F : FTy → Type} [FloatOps F]

variable (m : (ℓ : Loc nD τ sig) → Buf (Elt F) ℓ)

/-! # What the result array holds after the run -/

/-- Point `t`'s block of cubes is block `t` along the lanes; -/
theorem index_cubes : ∀ t : Fin cfg0.N, win0_0.index t = ![0, 0, 0, t.val] := (by decide +kernel : ∀ t : Fin grid0.N, _)
/-- so is its block of first triples, -/
theorem index_firsts : ∀ t : Fin cfg0.N, win0_1.index t = ![0, t.val] := (by decide +kernel : ∀ t : Fin grid0.N, _)
/-- its block of second triples -/
theorem index_seconds : ∀ t : Fin cfg0.N, win0_2.index t = ![0, t.val] := (by decide +kernel : ∀ t : Fin grid0.N, _)
/-- and its block of the result. -/
theorem index_out : ∀ t : Fin cfg0.N, win0_3.index t = ![0, 0, 0, t.val] := (by decide +kernel : ∀ t : Fin grid0.N, _)

/-- The call finds the first array of triples transposed, -/
theorem entry_firsts (c : Dev nD) (r : Fin 3) (v : Fin 100000) :
    (V m c main_v0 : Vec F S3x100000 .f32) (ix2 r v) = (m ((c.tc : Thread nD τ).loc main_arg1) : Vec F S100000x3 .f32) (ix2 v r) := by
  entry_read
  pointwise

/-- and the second one likewise. -/
theorem entry_seconds (c : Dev nD) (r : Fin 3) (v : Fin 100000) :
    (V m c main_v1 : Vec F S3x100000 .f32) (ix2 r v) = (m ((c.tc : Thread nD τ).loc main_arg2) : Vec F S100000x3 .f32) (ix2 v r) := by
  entry_read
  pointwise

/-- Lane `v` of point `t`'s block of cubes, inside the array, is vertex `t * 25600 + v` of the argument; -/
theorem cubes_apply (c : Dev nD) (t : Fin cfg0.N) (v : Fin 25600) (hv : v.val < win0_3.xsize (grid0.coords t) 3)
    (w : Fin 100000) (hw : w.val = t.val * 25600 + v.val) (r s q : Fin 2) :
    cubes m c t (ix4 r s q v) = (m ((c.tc : Thread nD τ).loc main_arg0) : Vec F S2x2x2x100000 .f32) (ix4 r s q w) := by
  unfold cubes Pipeline.Window.fill
  rw [dif_pos ((win0_0.moved_iff _ _).mpr (moved_cubes t v hv r s q)), ← V_main_arg0 m c]
  blk_simp [iblk]
  refine congrArg (V m c main_arg0) ?_
  blk_ext [index_cubes, hw]

/-- of the block of first triples, the vertex's row of the first array; -/
theorem firsts_apply (c : Dev nD) (t : Fin cfg0.N) (v : Fin 25600) (hv : v.val < win0_3.xsize (grid0.coords t) 3)
    (w : Fin 100000) (hw : w.val = t.val * 25600 + v.val) (r : Fin 3) :
    firsts m c t (ix2 r v) = (m ((c.tc : Thread nD τ).loc main_arg1) : Vec F S100000x3 .f32) (ix2 w r) := by
  unfold firsts Pipeline.Window.fill
  rw [dif_pos ((win0_1.moved_iff _ _).mpr (moved_firsts t v hv r)), ← entry_firsts m c]
  blk_simp [iblk]
  refine congrArg (V m c main_v0) ?_
  blk_ext [index_firsts, hw]

/-- and of the block of second triples, the vertex's row of the second array. -/
theorem seconds_apply (c : Dev nD) (t : Fin cfg0.N) (v : Fin 25600) (hv : v.val < win0_3.xsize (grid0.coords t) 3)
    (w : Fin 100000) (hw : w.val = t.val * 25600 + v.val) (r : Fin 3) :
    seconds m c t (ix2 r v) = (m ((c.tc : Thread nD τ).loc main_arg2) : Vec F S100000x3 .f32) (ix2 w r) := by
  unfold seconds Pipeline.Window.fill
  rw [dif_pos ((win0_2.moved_iff _ _).mpr (moved_seconds t v hv r)), ← entry_seconds m c]
  blk_simp [iblk]
  refine congrArg (V m c main_v1) ?_
  blk_ext [index_seconds, hw]

/-- So a lane of the stored block, inside the array, is the vertex's contracted cube. -/
theorem stored_eq_result (c : Dev nD) (t : Fin cfg0.N) (v : Fin 25600)
    (hv : v.val < win0_3.xsize (grid0.coords t) 3) (w : Fin 100000) (hw : w.val = t.val * 25600 + v.val)
    (i j k : Fin 3) :
    stored (cubes m c t) (firsts m c t) (seconds m c t) (ix4 i j k v)
      = result (F := F) (m ((c.tc : Thread nD τ).loc main_arg0)) (m ((c.tc : Thread nD τ).loc main_arg1))
          (m ((c.tc : Thread nD τ).loc main_arg2)) (ix4 i j k w) := by
  rw [stored_apply]
  simp only [cubes_apply m c t v hv w hw, firsts_apply m c t v hv w hw, seconds_apply m c t v hv w hw]
  rfl

/-- The four blocks written back, the last one cut at the array's end, make up the result. -/
theorem array_value (c : Dev nD) : (dats m 0 c).arrAt 3 cfg0.N
    = result (F := F) (m ((c.tc : Thread nD τ).loc main_arg0)) (m ((c.tc : Thread nD τ).loc main_arg1))
        (m ((c.tc : Thread nD τ).loc main_arg2)) := by
  refine (dats m 0 c).arrAt_eq_of_covers 3 _ (by decide +kernel) fun t hf y => ?_
  blk_simp
  have hw : ((win0_3.blk t).view.emb y 3).val = t.val * 25600 + (y 3).val := by blk_simp [index_out]
  have key := stored_eq_result m c t (win0_3.xinj (grid0.coords t) y 3) (y 3).isLt ((win0_3.blk t).view.emb y 3) hw
    (win0_3.xinj (grid0.coords t) y 0) (win0_3.xinj (grid0.coords t) y 1) (win0_3.xinj (grid0.coords t) y 2)
  refine Eq.trans ?_ (key.trans ?_)
  · exact congrArg (stored (cubes m c t) (firsts m c t) (seconds m c t)) (eq_ix4 (win0_3.xinj (grid0.coords t) y))
  · refine congrArg (result (F := F) _ _ _) ?_
    blk_ext [index_out]

end Cert.Proof01
-- ==== Proof.ReferenceValue.lean ====
module

public import proofs.«01_k».proof.Proof.Result
public import proofs.«01_k».proof.Proof.Gen.ReferenceIdeal.Run
public import Idealize.ShloMosaic.Lib.Pointwise

@[expose] public section

noncomputable section

namespace Cert.Proof01

open Cert.ReferenceIdeal Cert.ReferenceIdeal.Gen Idealize.ShloMosaic

/-! # What the reference computes -/

/-- The two arrays of triples, stacked along a new leading axis. -/
def stacked (e0 e1 : FVec Ideal S100000x3 .f32) : FVec Ideal S2x100000x3 .f32 :=
  concatenate S2x100000x3 0 [⟨S1x100000x3, broadcastInDim S1x100000x3 ![1, 2] bcast_S100000x3_S1x100000x3_1_2 e0⟩,
    ⟨S1x100000x3, broadcastInDim S1x100000x3 ![1, 2] bcast_S100000x3_S1x100000x3_1_2 e1⟩]
    concatenates_S1x100000x3_S1x100000x3_S2x100000x3_d0

/-- Entry `0` of the stack is the first array; -/
theorem stacked_zero (e0 e1 : FVec Ideal S100000x3 .f32) (v : Fin 100000) (r : Fin 3) :
    stacked e0 e1 (ix3 0 v r) = e0 (ix2 v r) := by
  pointwise [stacked]

/-- entry `1` is the second. -/
theorem stacked_one (e0 e1 : FVec Ideal S100000x3 .f32) (v : Fin 100000) (r : Fin 3) :
    stacked e0 e1 (ix3 1 v r) = e1 (ix2 v r) := by
  pointwise [stacked]

/-- A sum of two products, in scalars of the kernel's order: the pair of numbers weighted by the pair of weights. -/
theorem sum_eq_weigh (p a : Fin 2 → Ideal .f32) :
    (∑ r, (p r * a r : EReal)) = weigh (F := Ideal) (a 0) (a 1) (p 0) (p 1) :=
  (Fin.sum_univ_two _).trans (congrArg₂ (fun u w : EReal => u + w) (mul_comm (p 0 : EReal) _) (mul_comm (p 1 : EReal) _))

/-- The first contraction: the leading axis of the cube is summed away, the new axis is put last but one. -/
def step1 (x : FVec Ideal S2x2x2x100000 .f32) (E : FVec Ideal S2x100000x3 .f32) : FVec Ideal S2x2x3x100000 .f32 :=
  transpose S2x2x3x100000 [1, 2, 3, 0]
    (Host.dotGeneral dot_S2x2x2x100000_S2x100000x3_S100000x2x2x3_0_0_12_2_3_1 none x E)
    transposes_S100000x2x2x3_S2x2x3x100000_1_2_3_0

/-- The second contraction. -/
def step2 (x : FVec Ideal S2x2x3x100000 .f32) (E : FVec Ideal S2x100000x3 .f32) : FVec Ideal S2x3x3x100000 .f32 :=
  transpose S2x3x3x100000 [1, 2, 3, 0]
    (Host.dotGeneral dot_S2x2x3x100000_S2x100000x3_S100000x2x3x3_0_0_12_2_3_1 none x E)
    transposes_S100000x2x3x3_S2x3x3x100000_1_2_3_0

/-- The third contraction. -/
def step3 (x : FVec Ideal S2x3x3x100000 .f32) (E : FVec Ideal S2x100000x3 .f32) : FVec Ideal S3x3x3x100000 .f32 :=
  transpose S3x3x3x100000 [1, 2, 3, 0]
    (Host.dotGeneral dot_S2x3x3x100000_S2x100000x3_S100000x3x3x3_0_0_12_2_3_1 none x E)
    transposes_S100000x3x3x3_S3x3x3x100000_1_2_3_0

/-- The first contraction at an index: two numbers along the leading axis, weighted. -/
theorem step1_apply (x : FVec Ideal S2x2x2x100000 .f32) (E : FVec Ideal S2x100000x3 .f32) (s t : Fin 2) (i : Fin 3)
    (v : Fin 100000) :
    step1 x E (ix4 s t i v)
      = weigh (F := Ideal) (E (ix3 0 v i)) (E (ix3 1 v i)) (x (ix4 0 s t v)) (x (ix4 1 s t v)) := by
  pointwise [step1]
  exact sum_eq_weigh (fun r => x (ix4 r s t v)) fun r => E (ix3 r v i)

/-- The second contraction at an index. -/
theorem step2_apply (x : FVec Ideal S2x2x3x100000 .f32) (E : FVec Ideal S2x100000x3 .f32) (t : Fin 2) (i j : Fin 3)
    (v : Fin 100000) :
    step2 x E (ix4 t i j v)
      = weigh (F := Ideal) (E (ix3 0 v j)) (E (ix3 1 v j)) (x (ix4 0 t i v)) (x (ix4 1 t i v)) := by
  pointwise [step2]
  exact sum_eq_weigh (fun r => x (ix4 r t i v)) fun r => E (ix3 r v j)

/-- The third contraction at an index. -/
theorem step3_apply (x : FVec Ideal S2x3x3x100000 .f32) (E : FVec Ideal S2x100000x3 .f32) (i j k : Fin 3)
    (v : Fin 100000) :
    step3 x E (ix4 i j k v)
      = weigh (F := Ideal) (E (ix3 0 v k)) (E (ix3 1 v k)) (x (ix4 0 i j v)) (x (ix4 1 i j v)) := by
  pointwise [step3]
  exact sum_eq_weigh (fun r => x (ix4 r i j v)) fun r => E (ix3 r v k)

/-- The reference: three contractions with the stacked triples. -/
def reference (x : FVec Ideal S2x2x2x100000 .f32) (e0 e1 : FVec Ideal S100000x3 .f32) : FVec Ideal S3x3x3x100000 .f32 :=
  step3 (step2 (step1 x (stacked e0 e1)) (stacked e0 e1)) (stacked e0 e1)

/-- The reference at an index: the contracted cube of its vertex, as extended reals. -/
theorem reference_apply (x : FVec Ideal S2x2x2x100000 .f32) (e0 e1 : FVec Ideal S100000x3 .f32) (i j k : Fin 3)
    (v : Fin 100000) : reference x e0 e1 (ix4 i j k v) = result (F := Ideal) x e0 e1 (ix4 i j k v) := by
  unfold reference
  simp only [step3_apply, step2_apply, step1_apply, stacked_zero, stacked_one]
  rfl

/-- The reference is the result. -/
theorem reference_eq_result (x : FVec Ideal S2x2x2x100000 .f32) (e0 e1 : FVec Ideal S100000x3 .f32) :
    reference x e0 e1 = result (F := Ideal) x e0 e1 := by
  funext y
  rw [eq_ix4 y]
  exact reference_apply x e0 e1 _ _ _ _

end Cert.Proof01
-- ==== Proof.Equation.lean ====
module

public import proofs.«01_k».proof.Proof.Frame
public import proofs.«01_k».proof.Proof.ArrayValue
public import proofs.«01_k».proof.Proof.ReferenceValue
public import Idealize.ShloMosaic.Lib.Pipeline.Quiescent

@[expose] public section

set_option maxRecDepth 16384

noncomputable section

namespace Cert.Proof01

open Idealize.ShloMosaic Idealize.ShloMosaic.TcCoe
open Idealize.SL.Sem

/-! # The claims about values, and the reference's frame -/

section Kernel

open Cert.KernelIdeal Cert.KernelIdeal.Gen

variable {F : FTy → Type} [FloatOps F]

variable (m : (ℓ : Loc nD τ sig) → Buf (Elt F) ℓ) (ρ : Dev nD → PrngReg)

/-- For any float operations: the kernel ends with the contracted cubes in its result array. -/
theorem value_run : θ_run defs (onTc (τ := τ) (main (F := F))) ⟨m, fun _ => 0, ρ⟩ (fun r => ∀ c : Dev nD,
    r.2.mem ((c.tc : Thread nD τ).loc main_v2)
      = result (F := F) (m ((c.tc : Thread nD τ).loc main_arg0)) (m ((c.tc : Thread nD τ).loc main_arg1))
          (m ((c.tc : Thread nD τ).loc main_arg2))) :=
  θ_run_mono (run_main m ρ) fun _ h c => ((h.1 c).1 3).trans (array_value m c)

end Kernel

/-- The reference's frame claim: it has no semaphore, and its operations write no argument. -/
theorem frame_reference : Cert.quiescent_ReferenceIdeal := fun m g _ =>
  θ_run_mono (Cert.ReferenceIdeal.Value.run m g) fun r h =>
    ⟨fun c => (h c).2, sem_eq_zero_of_no_sems rfl r.2⟩

/-- Read with floats as extended reals, the kernel and the reference end with equal results. -/
theorem kernel_eq_reference : Cert.algebraic_KernelIdeal_ReferenceIdeal := by
  intro m g m' g' _ hargs
  refine ⟨fun c => result (F := Ideal) (m ((c.tc : Thread _ _).loc Cert.KernelIdeal.main_arg0))
    (m ((c.tc : Thread _ _).loc Cert.KernelIdeal.main_arg1)) (m ((c.tc : Thread _ _).loc Cert.KernelIdeal.main_arg2)),
    ?_, ?_⟩
  · exact θ_run_mono (θ_run_and (value_run m g) (frame_run m g)) fun r h c => ⟨h.1 c, h.2.1 c⟩
  · refine θ_run_mono (Cert.ReferenceIdeal.Value.run m' g') fun r h c => ⟨(h c).1.trans ?_, (h c).2⟩
    refine (reference_eq_result (m' ((c.tc : Thread _ _).loc Cert.ReferenceIdeal.main_arg0))
      (m' ((c.tc : Thread _ _).loc Cert.ReferenceIdeal.main_arg1))
      (m' ((c.tc : Thread _ _).loc Cert.ReferenceIdeal.main_arg2))).trans ?_
    rw [(hargs c).1, (hargs c).2.1, (hargs c).2.2]

end Cert.Proof01
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim :=
  ⟨Cert.Kernel.Gen.facts, Cert.KernelIdeal.Gen.facts, Cert.ReferenceIdeal.Gen.facts,
    Cert.Proof01.frame_kernel, Cert.Proof01.frame_ideal, Cert.Proof01.frame_reference, trivial,
    Cert.Proof01.kernel_eq_reference⟩

end Cert.Proof

end
